-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_bias [hPre_zero_bias : Cert.Pre_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_bias [hPre_zero_bias : Cert.Pre_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_zero_bias [hKernelIdeal : Cert.KernelIdeal.Facts] [hPre_zero_bias : Cert.Pre_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_zero_bias [hReferenceIdeal : Cert.ReferenceIdeal.Facts] [hPre_zero_bias : Cert.Pre_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_zero_bias [hKernelIdeal : Cert.KernelIdeal.Facts] [hReferenceIdeal : Cert.ReferenceIdeal.Facts] [hPre_zero_bias : Cert.Pre_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_zero_bias : Cert.Pre_zero_bias.Facts),
    quiescent_Kernel (hKernel := hKernel)
    ∧ quiescent_KernelIdeal (hKernelIdeal := hKernelIdeal)
    ∧ quiescent_KernelIdeal_pre_zero_bias (hKernelIdeal := hKernelIdeal) (hPre_zero_bias := hPre_zero_bias)
    ∧ quiescent_ReferenceIdeal (hReferenceIdeal := hReferenceIdeal)
    ∧ quiescent_ReferenceIdeal_pre_zero_bias (hReferenceIdeal := hReferenceIdeal) (hPre_zero_bias := hPre_zero_bias)
    ∧ preserves_Kernel_KernelIdeal
    ∧ algebraic_KernelIdeal_ReferenceIdeal_pre_zero_bias (hKernelIdeal := hKernelIdeal) (hReferenceIdeal := hReferenceIdeal) (hPre_zero_bias := hPre_zero_bias)
-- ==== Pre_zero_bias.lean ====
abbrev S1024x128 : Shape := ⟨2, ![1024, 128]⟩
abbrev S100000x128 : Shape := ⟨2, ![100000, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S1024x128 .f32) (main_arg1 : FVec F S100000x128 .f32) (main_arg2 : FVec F S100000 .f32) : IVec S_ 1 :=
  let main_cst : FVec F S_ .f32 := constant S_ .f32 0x00000000#32
  let main_v0 : FVec F S100000 .f32 := broadcastInDim S100000 ![] bcast_S_S100000 main_cst
  let main_v1 : IVec S100000 1 := cmpf .oeq main_arg2 main_v0
  let main_c : IVec S_ 1 := constantI S_ 1 1#1
  let main_v2 : IVec S_ 1 := (fun x v => Host.reduce IntOp.andi x v reducesTo_S100000_S_d0 h_S_) main_v1 main_c
  main_v2
-- ==== Kernel.lean ====
abbrev S1024x128 : Shape := ⟨2, ![1024, 128]⟩
abbrev S100000x128 : Shape := ⟨2, ![100000, 128]⟩
abbrev S100000 : Shape := ⟨1, ![100000]⟩
abbrev S1024x100000 : Shape := ⟨2, ![1024, 100000]⟩
abbrev S2048x128 : Shape := ⟨2, ![2048, 128]⟩
abbrev S1024x2048 : Shape := ⟨2, ![1024, 2048]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000, .f32⟩
  | .hbm, ⟨3, _⟩ => ⟨S1024x100000, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1024x2048, .f32⟩
  | .local _ .vmem, ⟨4, _⟩ => ⟨S1024x2048, .f32⟩
  | .local _ .vmem, ⟨5, _⟩ => ⟨S1024x128, .f32⟩
  | .local _ .vmem, ⟨6, _⟩ => ⟨S1024x1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 49], ![false, false]⟩

def k0_cond5 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![c0_i32.toNat, v0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1024x128 : Shape := ⟨2, ![1024, 128]⟩
abbrev S100000x128 : Shape := ⟨2, ![100000, 128]⟩
abbrev S100000 : Shape := ⟨1, ![100000]⟩
abbrev S128x100000 : Shape := ⟨2, ![128, 100000]⟩
abbrev S1024x100000 : Shape := ⟨2, ![1024, 100000]⟩
abbrev S1x100000 : Shape := ⟨2, ![1, 100000]⟩
abbrev S_ : Shape := ⟨0, ![]⟩
abbrev S1024 : Shape := ⟨1, ![1024]⟩
abbrev S1024x1 : Shape := ⟨2, ![1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S100000, .f32⟩
  | .hbm, ⟨3, _⟩ => ⟨S128x100000, .f32⟩
  | .hbm, ⟨4, _⟩ => ⟨S1024x100000, .f32⟩
  | .hbm, ⟨5, _⟩ => ⟨S1x100000, .f32⟩
  | .hbm, ⟨6, _⟩ => ⟨S1024x100000, .f32⟩
  | .hbm, ⟨7, _⟩ => ⟨S1024x100000, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .i1⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S1024x100000, .f32⟩
  | .hbm, ⟨27, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.FrameBits.lean ====
/-
  The launch of `Kernel` at any float instance: it terminates, nothing faults, the three argument arrays end as they
  began and every semaphore counter ends at zero. The result's staging buffer is not tracked here.
-/
module

public import proofs.«01_k».proof.Proof.BodyBits
public import proofs.«01_k».proof.Proof.Gen.Kernel.Points

@[expose] public section

set_option maxRecDepth 16384

noncomputable section

namespace Cert.Kernel.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is the one whose buffer is not tracked. -/
def untracked : Fin cfg0.W → Bool
  | ⟨0, _⟩ => false
  | ⟨1, _⟩ => false
  | ⟨_ + 2, _⟩ => true

/-- The pipeline's proof data: the arrays as launched; after the body the row block in place, the weight block in place
    on its rows inside the array; the scratch buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => fun _ => Scalar.ofBits .f32 0#32
  Φ _ := Pipeline.ΦA spec0 c
  q _ := fullShare
  owed _ := 0

/-- The row block is in its buffer at every point. -/
theorem before_0 (c : Dev nD) (t : Fin cfg0.N) (d) : (dats m 0 c).before 0 t d = iblk m c 0 t :=
  before0_0_of m (dats m 0 c) rfl (fun _ => rfl) t d

/-- The weight block is in its buffer at every point, on its rows inside the array. -/
theorem before_1 (c : Dev nD) (t : Fin cfg0.N) (d) :
    (dats m 0 c).before 1 t d = win0_1.fill (grid0.coords t) d (iblk m c 1 t) := by
  unfold Dat.before
  rw [if_pos (fetch0_1 t)]
  rfl

/-- The body at every point, from the buffers as the pipeline hands them over. -/
theorem obligation (c : Dev nD) :
    BodyObligationLoose (dats m 0 c) (defs₀ (F := F)) Variants.none () Set.univ untracked := fun t => by
  rw [bigSep_W0, bigSep_W0]
  simp only [show untracked (0 : Fin 3) = false from rfl, show untracked (1 : Fin 3) = false from rfl,
    show untracked (2 : Fin 3) = true from rfl, show ∀ i, cfg0.idle (0 : Fin 3) i = false from fun _ => rfl,
    show ∀ i, cfg0.idle (1 : Fin 3) i = false from fun _ => rfl, show cfg0.loose (0 : Fin 3) = false from rfl,
    show cfg0.loose (1 : Fin 3) = true from rfl]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨⟨%S, HS⟩, ⟨%L, HL⟩⟩, Hr⟩, Ho, ⟨%d0, H0⟩, ⟨%d1, H1⟩, ⟨%X2, H2⟩⟩
  rw [before_0 m c t d0, before_1 m c t d1]
  iapply (body_run (F := F) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (Memref.whole cc0_scratch0) (Memref.isWhole_whole _) (Memref.whole cc0_scratch1) (Memref.isWhole_whole _)
    (iblk m c 0 t) (win0_1.fill (grid0.coords t) d1 (iblk m c 1 t)) X2 S L _)
  isplitl [H0 H1 H2 HS HL]
  · isplitl [H0]; · iexact H0
    isplitl [H1]; · iexact H1
    isplitl [H2]; · iexact H2
    rw [owns_whole, owns_whole]
    isplitl [HS]; · iexact HS
    iexact HL
  rw [owns_whole, owns_whole]
  iintro ⟨H0, H1, H2, HS, HL⟩
  isplitl [HS HL Hr]
  · isplitl [HS HL]
    · isplitl [HS]; · iexists _; iexact HS
      iexists _; iexact HL
    iexact Hr
  isplitl [Ho]; · iexact Ho
  isplitl [H0]; · iexact H0
  isplitl [H1]
  · iexists d1
    change _ ⊢ owns (c : Thread nD τ) (st0_1 t) fullShare (win0_1.fill (grid0.coords t) d1
      (win0_1.cut (grid0.coords t) (win0_1.fill (grid0.coords t) (fun _ => Scalar.ofBits .f32 0#32) (iblk m c 1 t))))
    rw [win0_1.cut_fill]
  iexists _; iexact H2

set_option backward.isDefEq.respectTransparency.types false in
/-- Every weakly fair execution of the program terminates with its three argument arrays unchanged and every semaphore
    counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have hrun : θ_run defs (onTc (τ := τ) (main (F := F))) (s₀ m ρ) (fun r =>
      RDat.FramePost (cfgs 0) (fun c => (dats m 0 c).toRForget untracked) (V m) r ∧ r.2.sem = fun _ => 0) :=
    Pipeline.θ_run_frame_forget (Q' := _) cfgs (dats m) (0 : Fin 1) launch0 (defs₀ (F := F)) Variants.none untracked m ρ (main (F := F))
    (hbody := fun c => obligation m c) (hshare := fun c => (dats m 0 c).share_full fun _ => rfl)
    (howed := fun _ _ => rfl) (V := V m) (hmain := hmain m Variants.none) (hA := fun _ _ => rfl) (hΦ := fun _ _ => rfl)
  refine (θ_run defs _ _).mono (fun r h => ?_) hrun
  exact ⟨fun c => ⟨RDat.FramePost.arr_in h.1 c 0 rfl, RDat.FramePost.arr_in h.1 c 1 rfl,
    (h.1 c).2 main_arg2 (Pipeline.mem_restRefs_of main_arg2 (by decide) (by decide))⟩, h.2⟩

end Cert.Kernel.Proof

end
-- ==== Proof.BodyIdeal.lean ====
/-
  What the kernel body does at one grid point of `KernelIdeal`: from the five buffers at any contents, the body runs to
  its return and leaves each buffer at a value named here (`sNext`, `lseNext`, `outNext`), at any float instance.
-/
module

public import proofs.«01_k».proof.Proof.Gen.KernelIdeal.Frame
public import proofs.«01_k».proof.Proof.Gen.KernelIdeal.Skeleton

@[expose] public section

set_option maxRecDepth 16384

noncomputable section

namespace Cert.KernelIdeal.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body's branch conditions, as words -/

/-- The point is the first of all: sweep 0, block 0. -/
def atFirst (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
/-- The point is in sweep 0. -/
def inSum (i : grid0.Coords) : BitVec 1 :=
  Scalar.cmpi .ne (Scalar.extui (Scalar.cmpi .eq (BitVec.ofNat 32 (i 0).val) 0#32) : BitVec 32) 0#32
/-- The point is a sweep's last. -/
def atLast (i : grid0.Coords) : BitVec 1 :=
  Scalar.cmpi .ne (Scalar.extui (Scalar.cmpi .eq (BitVec.ofNat 32 (i 1).val) 48#32) : BitVec 32) 0#32

/-! ## What the body leaves -/

/-- The running sum as the point finds it: zeroed at the first point. -/
def sStart (i : grid0.Coords) (S : Vec F S1024x128 .f32) : Vec F S1024x128 .f32 :=
  if atFirst i = 1#1 then k0_pay1 else S
/-- The exponentials the point adds up: masked at the array's end in the sweep's last block. -/
def eBlk (i : grid0.Coords) (X0 : Vec F S1024x128 .f32) (X1 : Vec F S2048x128 .f32) : FVec F S1024x2048 .bf16 :=
  if atLast i = 1#1 then k0_pay4 i X0 X1 else k0_pay3 X0 X1
/-- The running sum after the point: in sweep 0 the block's sums are added. -/
def sNext (i : grid0.Coords) (X0 : Vec F S1024x128 .f32) (X1 : Vec F S2048x128 .f32) (S : Vec F S1024x128 .f32) : Vec F S1024x128 .f32 :=
  if inSum i = 1#1 then k0_pay5 (eBlk i X0 X1) (sStart i S) else sStart i S
/-- Column 0 of a running sum. -/
def col0 (S : Vec F S1024x128 .f32) : Vec F S1024x1 .f32 :=
  fun j => S ((Rect.unit (s := S1024x128) ![0, 0] S1024x1.size inb_S1024x128_S1024x1_0_0).emb j)
/-- The log-sum-exp column after the point: written at sweep 0's last point. -/
def lseNext (i : grid0.Coords) (X0 : Vec F S1024x128 .f32) (X1 : Vec F S2048x128 .f32) (S : Vec F S1024x128 .f32) (L : Vec F S1024x1 .f32) :
    Vec F S1024x1 .f32 :=
  if inSum i = 1#1 ∧ atLast i = 1#1 then k0_pay6 (col0 (sNext i X0 X1 S)) else L
/-- The result's block after the point: in sweep 1 the block's logits less the log-sum-exp column. -/
def outNext (i : grid0.Coords) (X0 : Vec F S1024x128 .f32) (X1 : Vec F S2048x128 .f32) (S : Vec F S1024x128 .f32) (L : Vec F S1024x1 .f32)
    (X2 : Vec F S1024x2048 .f32) : Vec F S1024x2048 .f32 :=
  if k0_cond5 i = 1#1 then k0_pay7 X0 X1 (lseNext i X0 X1 S L) else X2

/-! ## Loads and stores of a whole buffer -/

theorem zero_off : (![0, 0] : Fin 2 → Nat) = fun _ => 0 := funext fun a => by fin_cases a <;> rfl

/-- A load of the whole buffer reads its contents. -/
theorem readAt_all {κ : Kind} {sp : Space} {s : Shape} {e : EltTy} (v : View sig κ sp s e) {off : Fin s.rank → Nat}
    (h : off = fun _ => 0) (inb : ∀ a, off a + s.size a ≤ s.size a) (f : v.ty.Contents (Elt F)) :
    v.readAt (Elt F) (Rect.unit off s.size inb).toLoadRect f = v.read (Elt F) f := by
  subst h
  funext x
  exact congrArg (v.read (Elt F) f) (Rect.emb_whole_apply _ x)

/-- A store of the whole buffer leaves the stored value. -/
theorem read_write_all {κ : Kind} {sp : Space} {s : Shape} {e : EltTy} (v : View sig κ sp s e) {off : Fin s.rank → Nat}
    (h : off = fun _ => 0) (inb : ∀ a, off a + s.size a ≤ s.size a) (f : v.ty.Contents (Elt F)) (w : s.Idx → Elt F e) :
    v.read (Elt F) ((v.slice (Rect.unit off s.size inb)).write (Elt F) f w Finset.univ) = w := by
  subst h
  funext x
  have h := View.read_slice_write_emb (v := v) (Val := Elt F) (Rect.unit (fun _ => 0) s.size inb) f w (Finset.mem_univ x)
  rwa [show (Rect.unit (fun _ => 0) s.size inb).emb x = x from Rect.emb_whole_apply _ x] at h

section Shapes
variable {κ : Kind} {sp : Space} {e : EltTy}

/-- A load of all of a 1024 × 128, 2048 × 128, 1024 × 1 buffer reads its contents; a store of all of a buffer leaves the
    stored value. -/
theorem rd_x (v : View sig κ sp S1024x128 e) (f : v.ty.Contents (Elt F)) :
    v.readAt (Elt F) (Rect.unit (s := S1024x128) ![0, 0] ![1024, 128] inb_S1024x128_S1024x128_0_0).toLoadRect f = v.read (Elt F) f :=
  readAt_all v zero_off _ f
theorem rd_w (v : View sig κ sp S2048x128 e) (f : v.ty.Contents (Elt F)) :
    v.readAt (Elt F) (Rect.unit (s := S2048x128) ![0, 0] ![2048, 128] inb_S2048x128_S2048x128_0_0).toLoadRect f = v.read (Elt F) f :=
  readAt_all v zero_off _ f
theorem rd_l (v : View sig κ sp S1024x1 e) (f : v.ty.Contents (Elt F)) :
    v.readAt (Elt F) (Rect.unit (s := S1024x1) ![0, 0] ![1024, 1] inb_S1024x1_S1024x1_0_0).toLoadRect f = v.read (Elt F) f :=
  readAt_all v zero_off _ f
theorem wr_x (M : Memref sig κ sp S1024x128 e) (f : M.view.ty.Contents (Elt F)) (w : S1024x128.Idx → Elt F e) :
    M.view.read (Elt F) (View.write (Elt F) (M.access (Rect.unit (s := S1024x128) ![0, 0] ![1024, 128] inb_S1024x128_S1024x128_0_0)) f w Finset.univ) = w :=
  read_write_all M.view zero_off _ f w
theorem wr_l (M : Memref sig κ sp S1024x1 e) (f : M.view.ty.Contents (Elt F)) (w : S1024x1.Idx → Elt F e) :
    M.view.read (Elt F) (View.write (Elt F) (M.access (Rect.unit (s := S1024x1) ![0, 0] ![1024, 1] inb_S1024x1_S1024x1_0_0)) f w Finset.univ) = w :=
  read_write_all M.view zero_off _ f w
theorem wr_o (M : Memref sig κ sp S1024x2048 e) (f : M.view.ty.Contents (Elt F)) (w : S1024x2048.Idx → Elt F e) :
    M.view.read (Elt F) (View.write (Elt F) (M.access (Rect.unit (s := S1024x2048) ![0, 0] ![1024, 2048] inb_S1024x2048_S1024x2048_0_0)) f w Finset.univ) = w :=
  read_write_all M.view zero_off _ f w
/-- The same of a list of such stores: the last one's value is left. -/
theorem wrs_x (M : Memref sig κ sp S1024x128 e) (f : M.view.ty.Contents (Elt F)) (w : S1024x128.Idx → Elt F e) (ps : List (View.Piece (Elt F) S1024x128 e)) :
    M.view.read (Elt F) (M.view.writes (Elt F) f (⟨Rect.unit (s := S1024x128) ![0, 0] ![1024, 128] inb_S1024x128_S1024x128_0_0, w⟩ :: ps)) = w :=
  read_write_all M.view zero_off inb_S1024x128_S1024x128_0_0 (M.view.writes (Elt F) f ps) w
/-- A load of column 0 of a buffer reads column 0 of its contents. -/
theorem rd_c (v : View sig κ sp S1024x128 .f32) (f : v.ty.Contents (Elt F)) :
    v.readAt (Elt F) (Rect.unit (s := S1024x128) ![0, 0] ![1024, 1] inb_S1024x128_S1024x1_0_0).toLoadRect f = col0 (v.read (Elt F) f) := rfl

end Shapes

set_option maxHeartbeats 4000000 in
/-- The body at one point, from the five buffers at any contents. -/
theorem body_run (c : Dev nD) (E : Set ℕ) (i : grid0.Coords)
    (M2 : Memref sig .tc .vmem S1024x128 .f32) (h2 : M2.IsWhole) (M3 : Memref sig .tc .vmem S2048x128 .f32) (h3 : M3.IsWhole)
    (M4 : Memref sig .tc .vmem S1024x2048 .f32) (h4 : M4.IsWhole) (M5 : Memref sig .tc .vmem S1024x128 .f32) (h5 : M5.IsWhole)
    (M6 : Memref sig .tc .vmem S1024x1 .f32) (h6 : M6.IsWhole)
    (X0 : Vec F S1024x128 .f32) (X1 : Vec F S2048x128 .f32) (X2 : Vec F S1024x2048 .f32) (S : Vec F S1024x128 .f32) (L : Vec F S1024x1 .f32)
    (K : PUnit → sProp 𝕄) :
    iprop((owns (c : Thread nD τ) M2 fullShare X0 ∗ owns (c : Thread nD τ) M3 fullShare X1 ∗ owns (c : Thread nD τ) M4 fullShare X2
            ∗ owns (c : Thread nD τ) M5 fullShare S ∗ owns (c : Thread nD τ) M6 fullShare L)
          ∗ (iprop(owns (c : Thread nD τ) M2 fullShare X0 ∗ owns (c : Thread nD τ) M3 fullShare X1
                ∗ owns (c : Thread nD τ) M4 fullShare (outNext i X0 X1 S L X2)
                ∗ owns (c : Thread nD τ) M5 fullShare (sNext i X0 X1 S) ∗ owns (c : Thread nD τ) M6 fullShare (lseNext i X0 X1 S L)) -∗ K ⟨⟩))
      ⊢ wp frame (wpE (defs₀ (F := F)) Variants.none c none) E (cc0__body i M2 h2 M3 h3 M4 h4 M5 h5 M6 h6) K := by
  simp only [owns, cc0__body_eq_skeleton]; unfold cc0__body_skel
  by_cases c1 : atFirst i = 1#1 <;> by_cases c2 : inSum i = 1#1 <;> by_cases c3 : atLast i = 1#1 <;> by_cases c5 : k0_cond5 i = 1#1
  all_goals
    simp only [outNext, lseNext, sNext, sStart, eBlk, c1, c2, c3, c5, if_true, if_false, and_true, and_false, and_self]
    unfold atFirst at c1; unfold inSum at c2; unfold atLast at c3
    simp only [c1, c2, c3, c5, dite_true, dite_false, pure_bind]
    simp only [Prog.lift, Prog.bind_op, Prog.bind_ret]
  all_goals
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    isplitl [H0]
    · iexists f0; isplitr; · ipureintro; exact hf0
      iexact H0
    isplitl [H1]
    · iexists f1; isplitr; · ipureintro; exact hf1
      iexact H1
    isplitl [H2]
    · iexists _; isplitr; swap; · iexact H2
      ipureintro
      simp only [wr_o, wr_l, wr_x, wrs_x, rd_x, rd_w, rd_l, rd_c, hf0, hf1, hf2, hf3, hf4]
    isplitl [H3]
    · iexists _; isplitr; swap; · iexact H3
      ipureintro
      simp only [wr_o, wr_l, wr_x, wrs_x, rd_x, rd_w, rd_l, rd_c, hf0, hf1, hf2, hf3, hf4]
    · iexists _; isplitr; swap; · iexact H4
      ipureintro
      simp only [wr_o, wr_l, wr_x, wrs_x, rd_x, rd_w, rd_l, rd_c, hf0, hf1, hf2, hf3, hf4]

end Cert.KernelIdeal.Proof

end
-- ==== Proof.Spec.lean ====
/-
  The mathematics both programs compute, over the extended reals: the logits of a linear layer, each row's logarithm of
  the sum of exponentials, and their difference; and that subtracting a real number before the exponentials and adding it
  after the logarithm changes nothing.
-/
module

public import Idealize.ShloMosaic.Lib.ValueIdx

@[expose] public section

noncomputable section

namespace Cert.LogSoftmax

open Idealize.ShloMosaic Idealize.ShloMosaic.ValueIdx

variable (x : (⟨2, ![1024, 128]⟩ : Shape).Idx → EReal) (w : (⟨2, ![100000, 128]⟩ : Shape).Idx → EReal)

/-- Row `r` of `x` against row `v` of `w`. -/
def logit (r : Fin 1024) (v : Fin 100000) : EReal := ∑ k : Fin 128, x (ix2 r k) * w (ix2 v k)

/-- The logarithm of the sum over all `v` of the exponentials of row `r`'s logits. -/
def lse (r : Fin 1024) : EReal := Ideal.log (∑ v : Fin 100000, Ideal.exp (logit x w r v))

/-- The log-softmax: each logit less its row's `lse`. -/
def logSoftmax : (⟨2, ![1024, 100000]⟩ : Shape).Idx → EReal := fun i => logit x w (i 0) (i 1) - lse x w (i 0)

/-! ## The shift -/

theorem exp_nonneg (l : EReal) : 0 ≤ Ideal.exp l := by
  induction l with
  | bot => simp
  | top => simp
  | coe a => simpa using (Real.exp_pos a).le

/-- The exponential of a difference with a real is the exponential times a positive real. -/
theorem exp_sub_real (l : EReal) (c : ℝ) : Ideal.exp (l - (c : EReal)) = Ideal.exp l * ((Real.exp (-c) : ℝ) : EReal) := by
  induction l with
  | bot => simp
  | top => rw [EReal.top_sub_coe, Ideal.exp_top, EReal.top_mul_coe_of_pos (Real.exp_pos _)]
  | coe a =>
    rw [← EReal.coe_sub, Ideal.exp_coe, Ideal.exp_coe, ← EReal.coe_mul, ← Real.exp_add, sub_eq_add_neg]

/-- A finite sum of nonnegative extended reals, each times one number, is the sum times the number. -/
theorem sum_mul_of_nonneg {ι : Type} (s : Finset ι) (f : ι → EReal) (hf : ∀ i, 0 ≤ f i) (k : EReal) :
    ∑ i ∈ s, f i * k = (∑ i ∈ s, f i) * k := by
  classical
  induction s using Finset.induction_on with
  | empty => simp
  | insert a s ha ih =>
    rw [Finset.sum_insert ha, Finset.sum_insert ha, ih, EReal.right_distrib_of_nonneg (hf a) (Finset.sum_nonneg fun i _ => hf i)]

/-- The logarithm of a nonnegative number times `exp (-c)`, plus `c`, is the number's logarithm. -/
theorem log_mul_exp_neg_add (S : EReal) (hS : 0 ≤ S) (c : ℝ) :
    Ideal.log (S * ((Real.exp (-c) : ℝ) : EReal)) + (c : EReal) = Ideal.log S := by
  induction S with
  | bot => simp at hS
  | top => rw [EReal.top_mul_coe_of_pos (Real.exp_pos _), Ideal.log_top, EReal.top_add_coe]
  | coe s =>
    have hs : (0 : ℝ) ≤ s := by exact_mod_cast hS
    rw [← EReal.coe_mul, Ideal.log_coe, Ideal.log_coe]
    rcases hs.eq_or_lt with h0 | h0
    · subst h0; simp
    · rw [if_neg (not_le.2 (mul_pos h0 (Real.exp_pos _))), if_neg (not_le.2 h0), Real.log_mul h0.ne' (Real.exp_pos _).ne',
        Real.log_exp, ← EReal.coe_add]
      congr 1; ring

/-- **The shift changes nothing**: for a real `c`, `log (∑ exp (l - c)) + c = log (∑ exp l)`. -/
theorem log_sum_exp_shift {ι : Type} [Fintype ι] (l : ι → EReal) (c : ℝ) :
    Ideal.log (∑ v, Ideal.exp (l v - (c : EReal))) + (c : EReal) = Ideal.log (∑ v, Ideal.exp (l v)) := by
  simp only [exp_sub_real]
  rw [sum_mul_of_nonneg _ _ (fun i => exp_nonneg _), log_mul_exp_neg_add _ (Finset.sum_nonneg fun i _ => exp_nonneg _)]

/-- A number whose absolute value is under infinity, or else zero: either way a real. -/
theorem shift_real (a : EReal) : ∃ c : ℝ, (if max a (-a) < ⊤ then a else 0) = (c : EReal) := by
  induction a with
  | bot => exact ⟨0, by simp⟩
  | top => exact ⟨0, by simp⟩
  | coe a =>
    refine ⟨a, if_pos ?_⟩
    exact max_lt (EReal.coe_lt_top _) (by rw [← EReal.coe_neg]; exact EReal.coe_lt_top _)

end Cert.LogSoftmax

end
-- ==== Proof.PartialSum.lean ====
/-
  The sum of a row's exponentials as the kernel runs it up: block after block of 2048 columns, the columns past the last
  counting nothing; after 49 blocks it is the whole row's sum.
-/
module

public import proofs.«01_k».proof.Proof.Spec

@[expose] public section

noncomputable section

namespace Cert.LogSoftmax

open Idealize.ShloMosaic Idealize.ShloMosaic.ValueIdx

variable (x : (⟨2, ![1024, 128]⟩ : Shape).Idx → EReal) (w : (⟨2, ![100000, 128]⟩ : Shape).Idx → EReal)

/-- Column `v`'s share of row `r`'s sum: its exponential, or nothing past the last column. -/
def expAt (r : Fin 1024) (v : Nat) : EReal := if h : v < 100000 then Ideal.exp (logit x w r ⟨v, h⟩) else 0

/-- Row `r`'s sum over the first `n` blocks. -/
def partialSum (n : Nat) (r : Fin 1024) : EReal := ∑ v ∈ Finset.range (n * 2048), expAt x w r v

theorem partialSum_zero (r : Fin 1024) : partialSum x w 0 r = 0 := by
  unfold partialSum; rw [Nat.zero_mul, Finset.range_zero, Finset.sum_empty]

/-- One more block adds that block's shares. -/
theorem partialSum_succ (n : Nat) (r : Fin 1024) :
    partialSum x w (n + 1) r = partialSum x w n r + ∑ c : Fin 2048, expAt x w r (n * 2048 + c.val) := by
  unfold partialSum
  rw [Nat.succ_mul, Finset.sum_range_add, Finset.sum_range (fun v => expAt x w r (n * 2048 + v))]

/-- All 49 blocks together hold the row's sum. -/
theorem partialSum_all (r : Fin 1024) : partialSum x w 49 r = ∑ v : Fin 100000, Ideal.exp (logit x w r v) := by
  unfold partialSum
  rw [show 49 * 2048 = 100000 + 352 from rfl, Finset.sum_range_add, Finset.sum_range (expAt x w r)]
  rw [Finset.sum_eq_zero (s := Finset.range 352) fun v _ => dif_neg (by omega), add_zero]
  exact Finset.sum_congr rfl fun v _ => dif_pos v.isLt

end Cert.LogSoftmax

end
-- ==== Proof.BlockIdeal.lean ====
/-
  What one grid point of `KernelIdeal` computes over the extended reals, from any contents of its buffers: the block's
  dot products, their exponentials, the running sum with the block's sums added, and the difference it stores.
-/
module

public import proofs.«01_k».proof.Proof.BodyIdeal
public import proofs.«01_k».proof.Proof.PartialSum
public import Idealize.ShloMosaic.Lib.MatmulPlain
public import Idealize.ShloMosaic.Lib.IdealHost
public import Idealize.ShloMosaic.Lib.Pipeline.ValueKit

@[expose] public section

set_option maxRecDepth 16384

noncomputable section

namespace Cert.KernelIdeal.Proof

open Cert.KernelIdeal Cert.KernelIdeal.Gen Cert.LogSoftmax
open Idealize.ShloMosaic hiding ix2
open Idealize.ShloMosaic.TcCoe Idealize.SL.Sem
open Idealize.ShloMosaic.ValueIdx hiding subf_apply

variable (X0 : Vec Ideal S1024x128 .f32) (X1 : Vec Ideal S2048x128 .f32)

/-- Entry `(r, j)` of the block's dot products. -/
def dotAt (r : Fin 1024) (j : Fin 2048) : EReal := ∑ k : Fin 128, (X0 (ix2 r k) : EReal) * X1 (ix2 j k)

theorem pay2_apply (r : Fin 1024) (j : Fin 2048) : k0_pay2 X0 X1 (ix2 r j) = dotAt X0 X1 r j := by
  unfold k0_pay2
  refine (Ideal.matmul_transposedRhs_apply (M := 1024) (K := 128) (N := 2048) none _ _ _ r j).trans ?_
  rw [constant_apply, Ideal.ofBits_zero_f32, zero_add]
  rfl

theorem pay3_apply (r : Fin 1024) (j : Fin 2048) : k0_pay3 X0 X1 (ix2 r j) = Ideal.exp (dotAt X0 X1 r j) := by
  rw [← pay2_apply]; rfl

/-- The comparison that masks the last block, as numbers. -/
theorem mask_word (a : Fin 49) (j : Fin 2048) :
    IntOp.cmpi .slt (IntOp.addi (IntOp.muli (BitVec.ofNat 32 a.val) 2048#32) (BitVec.ofNat 32 j.val)) 100000#32
      = if a.val * 2048 + j.val < 100000 then 1#1 else 0#1 := by
  have e : IntOp.addi (IntOp.muli (BitVec.ofNat 32 a.val) 2048#32) (BitVec.ofNat 32 j.val) = BitVec.ofNat 32 (a.val * 2048 + j.val) := by
    show BitVec.ofNat 32 a.val * BitVec.ofNat 32 2048 + BitVec.ofNat 32 j.val = _
    rw [← BitVec.ofNat_mul, ← BitVec.ofNat_add]
  rw [e]
  have ha := a.isLt
  have hj := j.isLt
  have t : (BitVec.ofNat 32 (a.val * 2048 + j.val)).toInt = ((a.val * 2048 + j.val : Nat) : Int) := by
    rw [BitVec.toInt_eq_toNat_of_lt] <;> rw [BitVec.toNat_ofNat, Nat.mod_eq_of_lt (by omega)]
    omega
  show BitVec.ofBool (decide ((BitVec.ofNat 32 (a.val * 2048 + j.val)).toInt < (100000#32 : BitVec 32).toInt)) = _
  rw [t, show (100000#32 : BitVec 32).toInt = 100000 from rfl]
  by_cases h : a.val * 2048 + j.val < 100000
  · rw [if_pos h, decide_eq_true (by exact_mod_cast h)]; rfl
  · rw [if_neg h, decide_eq_false (by exact_mod_cast h)]; rfl

theorem pay4_apply (i : grid0.Coords) (r : Fin 1024) (j : Fin 2048) :
    k0_pay4 i X0 X1 (ix2 r j) = if (i 1).val * 2048 + j.val < 100000 then Ideal.exp (dotAt X0 X1 r j) else 0 := by
  rw [← pay3_apply]
  unfold k0_pay4
  rw [select_apply, cmpi_apply, addi_apply, broadcast_apply, broadcast_apply, broadcast_apply, iota_single_apply]
  have h := mask_word (i 1) j
  refine (congrArg (fun b => Scalar.select b _ _) h).trans ?_
  by_cases hc : (i 1).val * 2048 + j.val < 100000
  · rw [if_pos hc, if_pos hc]; rfl
  · rw [if_neg hc, if_neg hc]; exact Ideal.ofBits_zero_bf16

/-- The block's sums are added to every lane of the running sum. -/
theorem pay5_apply (e : FVec Ideal S1024x2048 .bf16) (S : Vec Ideal S1024x128 .f32) (r : Fin 1024) (l : Fin 128) :
    k0_pay5 e S (ix2 r l) = (S (ix2 r l) : EReal) + ∑ j : Fin 2048, (e (ix2 r j) : EReal) := by
  unfold k0_pay5
  rw [shapeCast_self]
  refine congrArg (fun z : EReal => (S (ix2 r l) : EReal) + z) ?_
  refine (Ideal.matmul_plain_apply (M := 1024) (K := 2048) (N := 128) none _ _ _ r l).trans ?_
  rw [constant_apply, Ideal.ofBits_zero_f32, zero_add]
  refine Finset.sum_congr rfl fun j _ => ?_
  exact (congrArg (fun z : EReal => (e (ix2 r j) : EReal) * z) Ideal.ofBits_one_bf16).trans (mul_one _)

theorem pay1_apply (y) : k0_pay1 (F := Ideal) y = (0 : EReal) := by
  unfold k0_pay1
  rw [shapeCast_self, broadcast_apply, Ideal.ofBits_def, Ideal.ofBits_zero_f32]

theorem pay6_apply (v : Vec Ideal S1024x1 .f32) (y) : k0_pay6 v y = Ideal.log (v y) := by
  unfold k0_pay6
  rw [shapeCast_self]; rfl

theorem pay7_apply (L : Vec Ideal S1024x1 .f32) (r : Fin 1024) (j : Fin 2048) :
    k0_pay7 X0 X1 L (ix2 r j) = dotAt X0 X1 r j - L (ix2 r 0) := by
  rw [← pay2_apply]
  unfold k0_pay7
  rw [subf_apply]
  refine congrArg (fun z : EReal => k0_pay2 X0 X1 (ix2 r j) - z) ?_
  refine broadcastTo_apply _ _ _ _ fun a => ?_
  match a with
  | ⟨0, _⟩ => rfl
  | ⟨1, _⟩ => rfl

theorem col0_apply (S : Vec Ideal S1024x128 .f32) (r : Fin 1024) : col0 S (ix2 r 0) = S (ix2 r 0) := by
  unfold col0
  refine congrArg S (funext fun a => Fin.ext ?_)
  match a with
  | ⟨0, _⟩ => exact (Nat.zero_add _).trans (Nat.one_mul _)
  | ⟨1, _⟩ => rfl

end Cert.KernelIdeal.Proof

end
-- ==== Proof.PointIdeal.lean ====
/-
  What `KernelIdeal`'s buffers hold after grid point `t`, in the arguments' terms: the running sum is the row's sum over the
  blocks seen so far, the log-sum-exp column is written at sweep 0's last point, and sweep 1 stores the log-softmax block.
-/
module

public import proofs.«01_k».proof.Proof.BlockIdeal
public import proofs.«01_k».proof.Proof.Gen.KernelIdeal.Points

@[expose] public section

set_option maxRecDepth 16384

noncomputable section

namespace Cert.KernelIdeal.Proof

open Cert.KernelIdeal Cert.KernelIdeal.Gen Cert.LogSoftmax
open Idealize.ShloMosaic hiding ix2
open Idealize.ShloMosaic.TcCoe Idealize.SL.Sem
open Idealize.ShloMosaic.ValueIdx hiding subf_apply

variable (m : (ℓ : Loc nD τ sig) → Buf (Elt Ideal) ℓ) (c : Dev nD)

/-! ## The grid point's branches and blocks, as numbers -/

theorem idx : ∀ t : Fin cfg0.N, win0_0.index t = ![0, 0] ∧ win0_1.index t = ![t.val % 49, 0] ∧ win0_2.index t = ![0, if t.val < 49 then 0 else t.val - 49] :=
  (by decide +kernel : ∀ t : Fin grid0.N, _)

theorem coord1 : ∀ t : Fin cfg0.N, (grid0.coords t 1).val = t.val % 49 := (by decide +kernel : ∀ t : Fin grid0.N, _)
theorem atFirst_iff : ∀ t : Fin cfg0.N, atFirst (grid0.coords t) = 1#1 ↔ t.val = 0 := (by decide +kernel : ∀ t : Fin grid0.N, _)
theorem inSum_iff : ∀ t : Fin cfg0.N, inSum (grid0.coords t) = 1#1 ↔ t.val < 49 := (by decide +kernel : ∀ t : Fin grid0.N, _)
theorem atLast_iff : ∀ t : Fin cfg0.N, atLast (grid0.coords t) = 1#1 ↔ t.val % 49 = 48 := (by decide +kernel : ∀ t : Fin grid0.N, _)
theorem cond5_iff : ∀ t : Fin cfg0.N, k0_cond5 (grid0.coords t) = 1#1 ↔ 49 ≤ t.val := (by decide +kernel : ∀ t : Fin grid0.N, _)
theorem flush_2 : ∀ t : Fin cfg0.N, (cfg0.win 2).flush t = true ↔ 49 ≤ t.val :=
  (by decide +kernel : ∀ t : Fin grid0.N, win0_2.flush t = true ↔ 49 ≤ t.val)
theorem xsize_1 : ∀ t : Fin cfg0.N, win0_1.xsize (grid0.coords t) 0 = min 2048 (100000 - t.val % 49 * 2048) ∧ win0_1.xsize (grid0.coords t) 1 = 128 :=
  (by decide +kernel : ∀ t : Fin grid0.N, _)
theorem xsize_2 : ∀ t : Fin cfg0.N, 49 ≤ t.val →
    win0_2.xsize (grid0.coords t) 0 = 1024 ∧ win0_2.xsize (grid0.coords t) 1 = min 2048 (100000 - t.val % 49 * 2048) :=
  (by decide +kernel : ∀ t : Fin grid0.N, 49 ≤ t.val → win0_2.xsize (grid0.coords t) 0 = 1024 ∧ win0_2.xsize (grid0.coords t) 1 = min 2048 (100000 - t.val % 49 * 2048))

/-! ## The input blocks -/

/-- The launch's rows `x`. -/
abbrev argX : (⟨2, ![1024, 128]⟩ : Shape).Idx → EReal := m ((c : Thread nD τ).loc main_arg0)
/-- The launch's weights `W`. -/
abbrev argW : (⟨2, ![100000, 128]⟩ : Shape).Idx → EReal := m ((c : Thread nD τ).loc main_arg1)
/-- The weight buffer at point `t`: the fetched block over whatever the buffer held. -/
abbrev wBuf (t : Fin cfg0.N) (d : Vec Ideal S2048x128 .f32) : Vec Ideal S2048x128 .f32 := win0_1.fill (grid0.coords t) d (iblk m c 1 t)

theorem xBuf_apply (t : Fin cfg0.N) (r : Fin 1024) (k : Fin 128) : (iblk m c 0 t : Vec Ideal S1024x128 .f32) (ix2 r k) = argX m c (ix2 r k) := by
  blk_ext [iblk, V, idx t]

theorem wBuf_apply (t : Fin cfg0.N) (d) (j : Fin 2048) (k : Fin 128) (h : t.val % 49 * 2048 + j.val < 100000) :
    wBuf m c t d (ix2 j k) = argW m c (ix2 ⟨t.val % 49 * 2048 + j.val, h⟩ k) := by
  have hm : win0_1.moved (grid0.coords t) (ix2 j k) = true := by
    refine (win0_1.moved_iff _ _).mpr fun a => ?_
    have hj := j.isLt
    match a with
    | ⟨0, _⟩ => rw [show win0_1.xsize (grid0.coords t) ⟨0, _⟩ = _ from (xsize_1 t).1]; show j.val < _; omega
    | ⟨1, _⟩ => rw [show win0_1.xsize (grid0.coords t) ⟨1, _⟩ = _ from (xsize_1 t).2]; exact k.isLt
  unfold wBuf Pipeline.Window.fill
  rw [dif_pos hm]
  blk_ext [iblk, V, idx t]

/-- A block's dot product in range is a logit. -/
theorem dot_eq (t : Fin cfg0.N) (d) (r : Fin 1024) (j : Fin 2048) (h : t.val % 49 * 2048 + j.val < 100000) :
    dotAt (iblk m c 0 t) (wBuf m c t d) r j = logit (argX m c) (argW m c) r ⟨t.val % 49 * 2048 + j.val, h⟩ := by
  unfold dotAt logit
  exact Finset.sum_congr rfl fun k _ => congrArg₂ (fun a b : EReal => a * b) (xBuf_apply m c t r k) (wBuf_apply m c t d j k h)

/-- A block's exponentials are the columns' shares of the row's sum. -/
theorem eBlk_eq (t : Fin cfg0.N) (d) (r : Fin 1024) (j : Fin 2048) :
    eBlk (grid0.coords t) (iblk m c 0 t) (wBuf m c t d) (ix2 r j) = expAt (argX m c) (argW m c) r (t.val % 49 * 2048 + j.val) := by
  have hj := j.isLt
  unfold eBlk expAt
  by_cases hl : t.val % 49 = 48
  · rw [if_pos ((atLast_iff t).mpr hl), pay4_apply, coord1]
    by_cases h : t.val % 49 * 2048 + j.val < 100000
    · rw [if_pos h, dif_pos h, dot_eq m c t d r j h]
    · rw [if_neg h, dif_neg h]
  · have h : t.val % 49 * 2048 + j.val < 100000 := by omega
    rw [if_neg (fun h' => hl ((atLast_iff t).mp h')), pay3_apply, dif_pos h, dot_eq m c t d r j h]

/-! ## The scratch buffers -/

/-- Every lane of the running sum after `n` blocks. -/
def sumTo (n : Nat) : Vec Ideal S1024x128 .f32 := fun y => partialSum (argX m c) (argW m c) n (y 0)
/-- The log-sum-exp column. -/
def lseCol : Vec Ideal S1024x1 .f32 := fun y => lse (argX m c) (argW m c) (y 0)

/-- In sweep 0 the running sum takes in the point's block. -/
theorem sNext_sum (t : Fin cfg0.N) (ht : t.val < 49) (d) (S : Vec Ideal S1024x128 .f32) (hS : t.val ≠ 0 → S = sumTo m c t.val) :
    sNext (grid0.coords t) (iblk m c 0 t) (wBuf m c t d) S = sumTo m c (t.val + 1) := by
  have h0 : sStart (grid0.coords t) S = sumTo m c t.val := by
    unfold sStart
    by_cases hz : t.val = 0
    · rw [if_pos ((atFirst_iff t).mpr hz), hz]
      funext y
      exact (pay1_apply y).trans (partialSum_zero _ _ _).symm
    · rw [if_neg (fun h => hz ((atFirst_iff t).mp h)), hS hz]
  unfold sNext
  rw [if_pos ((inSum_iff t).mpr ht), h0]
  funext y
  obtain ⟨r, l, rfl⟩ : ∃ (r : Fin 1024) (l : Fin 128), y = ix2 r l := ⟨y 0, y 1, ValueIdx.eq_ix2 y⟩
  refine (pay5_apply _ _ _ _).trans ?_
  unfold sumTo
  refine Eq.trans ?_ (partialSum_succ _ _ _ _).symm
  refine congrArg (fun z : EReal => _ + z) (Finset.sum_congr rfl fun j _ => ?_)
  rw [eBlk_eq m c t d, Nat.mod_eq_of_lt ht]

/-- In sweep 1 the running sum stays. -/
theorem sNext_keep (t : Fin cfg0.N) (ht : 49 ≤ t.val) (X0 X1) (S : Vec Ideal S1024x128 .f32) : sNext (grid0.coords t) X0 X1 S = S := by
  unfold sNext sStart
  rw [if_neg (fun h => absurd ((inSum_iff t).mp h) (by omega)), if_neg (fun h => absurd ((atFirst_iff t).mp h) (by omega))]

/-- Sweep 0's last point writes the log-sum-exp column. -/
theorem lseNext_last (t : Fin cfg0.N) (ht : t.val = 48) (d) (S : Vec Ideal S1024x128 .f32) (L) (hS : S = sumTo m c t.val) :
    lseNext (grid0.coords t) (iblk m c 0 t) (wBuf m c t d) S L = lseCol m c := by
  unfold lseNext
  rw [if_pos ⟨(inSum_iff t).mpr (by omega), (atLast_iff t).mpr (by omega)⟩, sNext_sum m c t (by omega) d S fun _ => hS, ht]
  funext y
  obtain ⟨r, l, rfl⟩ : ∃ (r : Fin 1024) (l : Fin 1), y = ix2 r l := ⟨y 0, y 1, ValueIdx.eq_ix2 y⟩
  obtain rfl : l = 0 := Subsingleton.elim _ _
  rw [pay6_apply, col0_apply]
  unfold sumTo lseCol lse
  rw [show (48 + 1 : Nat) = 49 from rfl, partialSum_all]

/-- In sweep 1 the log-sum-exp column stays. -/
theorem lseNext_keep (t : Fin cfg0.N) (ht : 49 ≤ t.val) (X0 X1 S) (L : Vec Ideal S1024x1 .f32) : lseNext (grid0.coords t) X0 X1 S L = L := by
  unfold lseNext
  rw [if_neg (fun h => absurd ((inSum_iff t).mp h.1) (by omega))]

/-! ## The result's block -/

/-- The result array: the log-softmax of the launch's arguments. -/
abbrev result : (⟨2, ![1024, 100000]⟩ : Shape).Idx → EReal := logSoftmax (argX m c) (argW m c)

/-- What sweep 1 stores, on the columns inside the array, is the result's block. -/
theorem out_cut (t : Fin cfg0.N) (ht : 49 ≤ t.val) (d) (S L X2) (hL : L = lseCol m c) :
    win0_2.cut (grid0.coords t) (outNext (grid0.coords t) (iblk m c 0 t) (wBuf m c t d) S L X2)
      = ((cfg0.win 2).blk t).view.read (Elt Ideal) (result m c) := by
  unfold outNext
  rw [if_pos ((cond5_iff t).mpr ht), lseNext_keep t ht, hL]
  funext y
  have hr : (y 0).val < 1024 := (y 0).isLt.trans_le (xsize_2 t ht).1.le
  have hc0 : (y 1).val < min 2048 (100000 - t.val % 49 * 2048) := (y 1).isLt.trans_le (xsize_2 t ht).2.le
  have hj : (y 1).val < 2048 := by omega
  have h : t.val % 49 * 2048 + (y 1).val < 100000 := by omega
  have hx : win0_2.xinj (grid0.coords t) y = ix2 (⟨(y 0).val, hr⟩ : Fin 1024) (⟨(y 1).val, hj⟩ : Fin 2048) := by
    funext a
    match a with
    | ⟨0, _⟩ => rfl
    | ⟨1, _⟩ => rfl
  have he : ((cfg0.win 2).blk t).view.emb y
      = ix2 (⟨(y 0).val, hr⟩ : Fin 1024) (⟨t.val % 49 * 2048 + (y 1).val, h⟩ : Fin 100000) := by
    have hN : t.val < 98 := t.isLt
    have hi : (if t.val < 49 then 0 else t.val - 49) = t.val % 49 := by rw [if_neg (by omega)]; omega
    have hidx := (idx t).2.2
    rw [hi] at hidx
    blk_ext [hidx]
  show k0_pay7 _ _ _ (win0_2.xinj (grid0.coords t) y) = _
  rw [hx, pay7_apply, dot_eq m c t d _ _ h]
  refine Eq.trans ?_ (congrArg (result m c) he).symm
  rfl

end Cert.KernelIdeal.Proof

end
-- ==== Proof.RunIdeal.lean ====
/-
  The launch of `KernelIdeal` over the extended reals, its scratch buffers followed from point to point: it terminates,
  nothing faults, the arguments end as they began, every semaphore counter ends at zero, and the result array ends holding
  the log-softmax of the launch's arguments.
-/
module

public import proofs.«01_k».proof.Proof.PointIdeal

@[expose] public section

set_option maxRecDepth 16384

noncomputable section

namespace Cert.KernelIdeal.Proof

open Cert.KernelIdeal Cert.KernelIdeal.Gen Cert.LogSoftmax
open Idealize.ShloMosaic hiding ix2
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- What the scratch buffers hold before point `n`: the running sum over the blocks seen, nothing claimed of the first
    point's; from sweep 1 on, the log-sum-exp column. -/
def Tracked (c : Dev nD) (n : Nat) (S : Vec Ideal S1024x128 .f32) (L : Vec Ideal S1024x1 .f32) : Prop :=
  (n ≠ 0 → S = sumTo m c (min n 49)) ∧ (49 ≤ n → L = lseCol m c)

/-- A point takes tracked scratch contents to tracked ones. -/
theorem tracked_step (c : Dev nD) (t : Fin cfg0.N) (d) (S : Vec Ideal S1024x128 .f32) (L : Vec Ideal S1024x1 .f32)
    (h : Tracked m c t.val S L) :
    Tracked m c (t.val + 1) (sNext (grid0.coords t) (iblk m c 0 t) (wBuf m c t d) S)
      (lseNext (grid0.coords t) (iblk m c 0 t) (wBuf m c t d) S L) := by
  by_cases ht : t.val < 49
  · have hS : t.val ≠ 0 → S = sumTo m c t.val := fun h0 => by rw [h.1 h0, Nat.min_eq_left ht.le]
    refine ⟨fun _ => ?_, fun h' => lseNext_last m c t (by omega) d S L (hS (by omega))⟩
    rw [sNext_sum m c t ht d S hS, Nat.min_eq_left ht]
  · have ht : 49 ≤ t.val := by omega
    refine ⟨fun _ => ?_, fun _ => ?_⟩
    · rw [sNext_keep t ht, h.1 (by omega), Nat.min_eq_right ht, Nat.min_eq_right (by omega)]
    · rw [lseNext_keep t ht, h.2 ht]

/-- The result's staging buffer after point `t`, on its columns inside the array: the result's block. -/
def outBuf (c : Dev nD) (t : Fin cfg0.N) : Vec Ideal S1024x2048 .f32 :=
  win0_2.fill (grid0.coords t) (fun _ => (0 : EReal)) (((cfg0.win 2).blk t).view.read (Elt Ideal) (result m c))

theorem cut_outBuf (c : Dev nD) (t : Fin cfg0.N) :
    win0_2.cut (grid0.coords t) (outBuf m c t) = ((cfg0.win 2).blk t).view.read (Elt Ideal) (result m c) :=
  win0_2.cut_fill _ _ _

/-- The scratch buffers and the generator register before point `n`. -/
def held (c : Dev nD) (n : Nat) : sProp 𝕄 :=
  iprop(∃ S : Vec Ideal S1024x128 .f32, ∃ L : Vec Ideal S1024x1 .f32, ⌜Tracked m c n S L⌝
    ∗ owns (c : Thread nD τ) (Memref.whole cc0_scratch0) fullShare S ∗ owns (c : Thread nD τ) (Memref.whole cc0_scratch1) fullShare L
    ∗ ∃ r, prngReg c r)

/-- The pipeline's proof data: the arrays as launched; after the body the row block, the weight block on its rows inside
    the array, the result's block on its columns inside the array; the scratch buffers tracked. -/
def tdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wBuf m c t fun _ => (0 : EReal)
    | ⟨2, _⟩ => outBuf m c t
  Φ n := held m c n.val
  q _ := fullShare
  owed _ := 0

/-- The row block is in its buffer at every point. -/
theorem tbefore_0 (c : Dev nD) (t : Fin cfg0.N) (d) : (tdats m 0 c).before 0 t d = iblk m c 0 t :=
  before0_0_of m (tdats m 0 c) rfl (fun _ => rfl) t d

/-- The weight block is in its buffer at every point, on its rows inside the array. -/
theorem tbefore_1 (c : Dev nD) (t : Fin cfg0.N) (d) : (tdats m 0 c).before 1 t d = wBuf m c t d := by
  unfold Dat.before
  rw [if_pos (fetch0_1 t)]
  rfl

/-- The result's window is idle just in sweep 0. -/
theorem idle_2 (t : Fin cfg0.N) : idle0 2 (grid0.coords t) = !(k0_cond5 (grid0.coords t) == 1#1) := rfl

/-- The result's staging buffer after sweep 1's body, as the pipeline asks for it. -/
theorem out_fill (c : Dev nD) (t : Fin cfg0.N) (ht : 49 ≤ t.val) (d) (S L X2) (hL : L = lseCol m c) :
    win0_2.fill (grid0.coords t) (outNext (grid0.coords t) (iblk m c 0 t) (wBuf m c t d) S L X2)
        (win0_2.cut (grid0.coords t) ((tdats m 0 c).after 2 t))
      = outNext (grid0.coords t) (iblk m c 0 t) (wBuf m c t d) S L X2 := by
  have e : win0_2.cut (grid0.coords t) ((tdats m 0 c).after 2 t) = ((cfg0.win 2).blk t).view.read (Elt Ideal) (result m c) :=
    cut_outBuf m c t
  rw [e, ← out_cut m c t ht d S L X2 hL]
  exact win0_2.fill_cut _ _

/-- The body at every point, from the buffers as the pipeline hands them over. -/
theorem tobligation (c : Dev nD) :
    BodyObligationLoose (tdats m 0 c) (defs₀ (F := Ideal)) Variants.none () Set.univ := fun t => by
  rw [bigSep_W0, bigSep_W0]
  simp only [show ∀ i, cfg0.idle (0 : Fin 3) i = false from fun _ => rfl,
    show ∀ i, cfg0.idle (1 : Fin 3) i = false from fun _ => rfl, show cfg0.loose (0 : Fin 3) = false from rfl,
    show cfg0.loose (1 : Fin 3) = true from rfl, show cfg0.loose (2 : Fin 3) = true from rfl]
  rw [show (tdats m 0 c).owesAt () t.succ = (tdats m 0 c).owesAt () t.castSucc from rfl,
    show (tdats m 0 c).Φ t.castSucc = held m c t.val from rfl, show (tdats m 0 c).Φ t.succ = held m c (t.val + 1) from rfl]
  unfold held
  iintro ⟨⟨%S, %L, %hT, HS, HL, Hr⟩, Ho, ⟨%d0, H0⟩, ⟨%d1, H1⟩, ⟨%d2, H2⟩⟩
  rw [tbefore_0 m c t d0, tbefore_1 m c t d1]
  iapply (body_run (F := Ideal) c Set.univ (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (Memref.whole cc0_scratch0) (Memref.isWhole_whole _) (Memref.whole cc0_scratch1) (Memref.isWhole_whole _)
    (iblk m c 0 t) (wBuf m c t d1) ((tdats m 0 c).before 2 t d2) S L _)
  isplitl [H0 H1 H2 HS HL]
  · isplitl [H0]; · iexact H0
    isplitl [H1]; · iexact H1
    isplitl [H2]; · iexact H2
    isplitl [HS]; · iexact HS
    iexact HL
  iintro ⟨H0, H1, H2, HS, HL⟩
  isplitl [HS HL Hr]
  · iexists (sNext (grid0.coords t) (iblk m c 0 t) (wBuf m c t d1) S)
    iexists (lseNext (grid0.coords t) (iblk m c 0 t) (wBuf m c t d1) S L)
    isplitr [HS HL Hr]
    · ipureintro
      exact tracked_step m c t d1 S L hT
    isplitl [HS]; · iexact HS
    isplitl [HL]; · iexact HL
    iexact Hr
  isplitl [Ho]; · iexact Ho
  isplitl [H0]; · iexact H0
  isplitl [H1]
  · iexists d1
    change _ ⊢ owns (c : Thread nD τ) (st0_1 t) fullShare (win0_1.fill (grid0.coords t) d1
      (win0_1.cut (grid0.coords t) (win0_1.fill (grid0.coords t) (fun _ => (0 : EReal)) (iblk m c 1 t))))
    rw [win0_1.cut_fill]
  by_cases ht : 49 ≤ t.val
  · rw [show idle0 2 (grid0.coords t) = false from (idle_2 t).trans (by rw [(cond5_iff t).mpr ht]; rfl)]
    iexists (outNext (grid0.coords t) (iblk m c 0 t) (wBuf m c t d1) S L ((tdats m 0 c).before 2 t d2))
    change _ ⊢ owns (c : Thread nD τ) (st0_2 t) fullShare (win0_2.fill (grid0.coords t)
      (outNext (grid0.coords t) (iblk m c 0 t) (wBuf m c t d1) S L ((tdats m 0 c).before 2 t d2))
      (win0_2.cut (grid0.coords t) ((tdats m 0 c).after 2 t)))
    rw [out_fill m c t ht d1 S L _ (hT.2 ht)]
  · have hc : ¬k0_cond5 (grid0.coords t) = 1#1 := fun h => ht ((cond5_iff t).mp h)
    rw [show idle0 2 (grid0.coords t) = true from (idle_2 t).trans (by rw [beq_eq_false_iff_ne.mpr hc]; rfl),
      show (win0 2).flush t = false from Bool.eq_false_iff.mpr fun h => ht ((flush_2 t).mp h)]
    iexists d2
    rw [show outNext (grid0.coords t) (iblk m c 0 t) (wBuf m c t d1) S L ((tdats m 0 c).before 2 t d2) = (tdats m 0 c).before 2 t d2 from
      if_neg hc]
    iexact H2

/-- Before the first point nothing is claimed of the scratch buffers. -/
theorem tin (c : Dev nD) : Pipeline.ΦA spec0 c ⊢ ((tdats m 0 c).Φ 0 : sProp 𝕄) := by
  rw [show (tdats m 0 c).Φ 0 = held m c 0 from rfl]
  unfold Pipeline.ΦA held
  rw [scopedRest0_eq]
  iintro ⟨⟨⟨%S, HS⟩, ⟨%L, HL⟩⟩, Hr⟩
  iexists S
  iexists L
  isplitr [HS HL Hr]
  · ipureintro
    exact ⟨fun h => absurd rfl h, fun h => absurd h (by decide)⟩
  rw [owns_whole, owns_whole]
  isplitl [HS]; · iexact HS
  isplitl [HL]; · iexact HL
  iexact Hr

/-- After the last point the scratch buffers' contents are forgotten. -/
theorem tout (c : Dev nD) : ((tdats m 0 c).Φ (Fin.last cfg0.N) : sProp 𝕄) ⊢ Pipeline.ΦA spec0 c := by
  rw [show (tdats m 0 c).Φ (Fin.last cfg0.N) = held m c 98 from rfl]
  unfold Pipeline.ΦA held
  rw [scopedRest0_eq]
  simp only [owns_whole]
  iintro ⟨%S, %L, %hT, HS, HL, Hr⟩
  isplitl [HS HL]
  · isplitl [HS]; · iexists S; iexact HS
    iexists L; iexact HL
  iexact Hr

/-- The blocks sweep 1 writes back make up the result array. -/
theorem result_arr (c : Dev nD) : (tdats m 0 c).arrAt 2 cfg0.N = result m c := by
  refine (tdats m 0 c).arrAt_eq_of_covers 2 _ (by decide +kernel) fun t _ y => ?_
  exact congrFun (cut_outBuf m c t) y

set_option backward.isDefEq.respectTransparency.types false in
/-- Every weakly fair execution of the program terminates with the result array at the log-softmax of the arguments, the
    three argument arrays unchanged and every semaphore counter at zero. -/
theorem run : θ_run (defs (F := Ideal)) (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have hrun : θ_run defs (onTc (τ := τ) (main (F := Ideal))) (s₀ m ρ) (fun r =>
      Pipeline.FramePost cfgs (tdats m) 0 (V m) r ∧ r.2.sem = fun _ => 0) :=
    Pipeline.θ_run_frame_track (Q' := _) cfgs (tdats m) (0 : Fin 1) launch0 (defs₀ (F := Ideal)) Variants.none m ρ (main (F := Ideal))
    (hbody := fun c => tobligation m c) (hshare := fun c => (tdats m 0 c).share_full fun _ => rfl)
    (howed := fun _ _ => rfl) (V := V m) (hmain := hmain m Variants.none) (hA := fun _ _ => rfl)
    (hin := fun c => tin m c) (hout := fun c => tout m c)
  refine (θ_run defs _ _).mono (fun r h => ?_) hrun
  exact ⟨fun c => ⟨((h.1 c).1 2).trans (result_arr m c), ((h.1 c).1 0).trans ((tdats m 0 c).arrAt_in 0 rfl _),
    ((h.1 c).1 1).trans ((tdats m 0 c).arrAt_in 1 rfl _),
    (h.1 c).2 main_arg2 (Pipeline.mem_restRefs_of main_arg2 (by decide) (by decide))⟩, h.2⟩

end Cert.KernelIdeal.Proof

end
-- ==== Proof.RefIdeal.lean ====
/-
  The launch of the reference `ReferenceIdeal` at the extended reals: a line of host operations, it terminates, its three
  argument arrays end as they began and every semaphore counter ends at zero.
-/
module

public import proofs.«01_k».proof.Proof.Gen.ReferenceIdeal.Run
public import proofs.«01_k».proof.Proof.Gen.ReferenceIdeal.Read
public import Idealize.ShloMosaic.PureOps.Ideal

@[expose] public section

set_option maxRecDepth 16384

noncomputable section

namespace Cert.ReferenceIdeal.Proof

open Cert.ReferenceIdeal Cert.ReferenceIdeal.Gen
open Idealize.ShloMosaic Idealize.ShloMosaic.TcCoe Idealize.SL.Sem

/-- Every weakly fair execution of the reference terminates with its arguments unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  exact (θ_run defs _ _).mono (fun r h => ⟨fun c => (h c).2, sem_eq_zero_of_no_sems (by decide) r.2⟩)
    (Value.run (F := Ideal) m ρ)

end Cert.ReferenceIdeal.Proof

end
-- ==== Proof.RefValue.lean ====
/-
  What the reference's result array holds: where the bias is zero, the log-softmax of the logits (`LogSoftmax.logSoftmax`).
-/
module

public import proofs.«01_k».proof.Proof.Spec
public import proofs.«01_k».proof.Proof.RefIdeal
public import Idealize.ShloMosaic.Lib.IdealHost

@[expose] public section

set_option maxRecDepth 16384

noncomputable section

namespace Cert.ReferenceIdeal.Proof

open Cert.ReferenceIdeal Cert.ReferenceIdeal.Gen Cert.ReferenceIdeal.Read Cert.LogSoftmax
open Idealize.ShloMosaic Idealize.ShloMosaic.TcCoe Idealize.SL.Sem Idealize.ShloMosaic.ValueIdx

variable (x0 : (⟨S1024x128, .f32⟩ : BufTy).Contents (Elt Ideal)) (x1 : (⟨S100000x128, .f32⟩ : BufTy).Contents (Elt Ideal))
  (x2 : (⟨S100000, .f32⟩ : BufTy).Contents (Elt Ideal))

/-- The word of infinity denotes the top element. -/
theorem ofBits_inf : Ideal.ofBits .f32 0x7F800000#32 = ⊤ := by simp [Ideal.ofBits, Ideal.ieee]

/-- The logits with a zero bias. -/
theorem v4_eq (hb : ∀ j, x2 j = (0 : EReal)) (i : S1024x100000.Idx) :
    val_main_v4 (F := Ideal) x0 x1 x2 i = logit x0 x1 (i 0) (i 1) := by
  rw [val_main_v4_apply, val_main_v1_apply, val_main_v3_apply, val_main_v2_apply, hb, Ideal.addf_def, add_zero]
  refine Finset.sum_congr rfl fun k _ => ?_
  rw [val_main_v0_apply]
  congr 2
  · funext a; match a with
      | ⟨0, _⟩ => rfl
      | ⟨1, _⟩ => rfl
  · funext a; match a with
      | ⟨0, _⟩ => rfl
      | ⟨1, _⟩ => rfl

/-- The number the reference subtracts before its exponentials is a real, whatever the row's maximum. -/
theorem v11_real (i : S1024x1.Idx) : ∃ c : ℝ, val_main_v11 (F := Ideal) x0 x1 x2 i = (c : EReal) := by
  obtain ⟨c, hc⟩ := shift_real (val_main_v6 (F := Ideal) x0 x1 x2 i)
  refine ⟨c, ?_⟩
  rw [← hc, val_main_v11_apply, val_main_v9_apply, val_main_v7_apply, val_main_v8_apply, val_main_cst_0_apply,
    val_main_v10_apply, val_main_cst_1_apply, Ideal.ofBits_def, Ideal.ofBits_def, ofBits_inf, Ideal.ofBits_zero_f32]
  generalize val_main_v6 (F := Ideal) x0 x1 x2 i = a
  show Scalar.select (BitVec.ofBool (decide (max a (-a) < ⊤))) a 0 = _
  by_cases h : max a (-a) < ⊤
  · simp [Scalar.select, h]
  · simp [Scalar.select, h]

/-- The row's sum of shifted exponentials. -/
theorem v15_eq (hb : ∀ j, x2 j = (0 : EReal)) (i : S1024x100000.Idx) (c : ℝ)
    (hc : val_main_v11 (F := Ideal) x0 x1 x2 (idx_main_v19 i) = (c : EReal)) :
    val_main_v15 (F := Ideal) x0 x1 x2 (idx_main_v16 (idx_main_v19 i)) = ∑ v : Fin 100000, Ideal.exp (logit x0 x1 (i 0) v - (c : EReal)) := by
  rw [val_main_v15_apply, val_main_cst_2_apply, Ideal.ofBits_def, Ideal.ofBits_zero_f32, zero_add]
  refine Finset.sum_congr rfl fun v _ => ?_
  have e : idx_main_v12 (idx_main_v15 (idx_main_v16 (idx_main_v19 i)) v) = idx_main_v19 i := by
    funext a; match a with
      | ⟨0, _⟩ => rfl
      | ⟨1, _⟩ => rfl
  rw [val_main_v14_apply, val_main_v13_apply, v4_eq x0 x1 x2 hb, val_main_v12_apply, e, hc, Ideal.hostUnary_exp_def, Ideal.subf_def]
  rfl

/-- **The reference's result**, at a zero bias. -/
theorem result_eq (hb : ∀ j, x2 j = (0 : EReal)) : val_main_v20 (F := Ideal) x0 x1 x2 = logSoftmax x0 x1 := by
  funext i
  obtain ⟨c, hc⟩ := v11_real x0 x1 x2 (idx_main_v19 i)
  rw [val_main_v20_apply, v4_eq x0 x1 x2 hb, val_main_v19_apply, val_main_v18_apply, hc, val_main_v17_apply,
    val_main_v16_apply, v15_eq x0 x1 x2 hb i c hc, Ideal.hostUnary_log_def, Ideal.addf_def, Ideal.subf_def,
    log_sum_exp_shift (fun v => logit x0 x1 (i 0) v) c]
  unfold logSoftmax lse
  rfl

end Cert.ReferenceIdeal.Proof

end
-- ==== Proof.RefRun.lean ====
/-
  The reference's run over the extended reals, with its result named: where the bias is zero, the log-softmax of the launch's
  arguments.
-/
module

public import proofs.«01_k».proof.Proof.RefValue

@[expose] public section

set_option maxRecDepth 16384

noncomputable section

namespace Cert.ReferenceIdeal.Proof

open Cert.ReferenceIdeal Cert.ReferenceIdeal.Gen Cert.ReferenceIdeal.Read Cert.LogSoftmax
open Idealize.ShloMosaic Idealize.ShloMosaic.TcCoe Idealize.SL.Sem

/-- Every weakly fair execution of the reference from a zero bias terminates with its result at the log-softmax of its
    arguments, which end unchanged. -/
theorem run (m : (ℓ : Loc nD τ sig) → Buf (Elt Ideal) ℓ) (ρ : Dev nD → PrngReg)
    (hb : ∀ (c : Dev nD) j, (m ((c.tc : Thread nD τ).loc main_arg2) : Vec Ideal S100000 .f32) j = (0 : EReal)) :
    θ_run (defs (F := Ideal)) (onTc (τ := τ) (main (F := Ideal))) ⟨m, fun _ => 0, ρ⟩ (fun r => ∀ c : Dev nD,
      r.2.mem ((c.tc : Thread nD τ).loc main_v20)
        = logSoftmax (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, (h c).2⟩) (Value.run (F := Ideal) m ρ)
  refine (h c).1.trans ?_
  exact (val_main_v20_eq (F := Ideal) _ _ _).trans (result_eq _ _ _ (hb c))

end Cert.ReferenceIdeal.Proof

end
-- ==== Proof.Bias.lean ====
/-
  The precondition `zero_bias` read at an element: where it holds, every element of the bias is zero.
-/
module

public import proofs.«01_k».proof.Proof.Gen.Pre_zero_bias
public import Idealize.ShloMosaic.Lib.ReduceAll
public import Idealize.ShloMosaic.Lib.IdealHost
public import Idealize.ShloMosaic.Lib.ValueIdx

@[expose] public section

set_option maxRecDepth 16384

noncomputable section

namespace Cert.Pre_zero_bias

open Idealize.ShloMosaic

/-- Where the predicate answers true, the bias is zero at every index. -/
theorem bias_zero [Facts] (x0 : FVec Ideal S1024x128 .f32) (x1 : FVec Ideal S100000x128 .f32) (x2 : FVec Ideal S100000 .f32)
    (h : fn (F := Ideal) x0 x1 x2 = fun _ => 1#1) (j : S100000.Idx) : x2 j = (0 : EReal) := by
  have h0 := congrFun h (Shape.Idx.first Facts.h_S_)
  unfold fn at h0
  have : Subsingleton S_.Idx := ⟨fun a b => funext fun i => i.elim0⟩
  have h1 := Host.reduce_andi_all _ _ Facts.reducesTo_S100000_S_d0 Facts.h_S_ _ h0 j
  have h2 : Ideal.cmp .oeq (x2 j) (Ideal.ofBits .f32 0x00000000#32) = 1#1 := h1
  rw [Ideal.ofBits_zero_f32] at h2
  by_contra hne
  simp [Ideal.cmp, hne] at h2

end Cert.Pre_zero_bias

end
-- ==== Proof.Equal.lean ====
/-
  The equation: from arguments that agree and a zero bias, kernel and reference both end with the log-softmax in their
  result arrays.
-/
module

public import proofs.«01_k».proof.Defs
public import proofs.«01_k».proof.Proof.RunIdeal
public import proofs.«01_k».proof.Proof.RefRun
public import proofs.«01_k».proof.Proof.Bias
public import proofs.«01_k».proof.Proof.Gen.Pre_zero_bias

@[expose] public section

set_option maxRecDepth 16384

noncomputable section

namespace Cert.Proof

open Idealize.ShloMosaic Idealize.SL.Sem

/-- Kernel and reference agree over the extended reals wherever the bias is zero. -/
theorem equal : Cert.algebraic_KernelIdeal_ReferenceIdeal_pre_zero_bias (hKernelIdeal := Cert.KernelIdeal.Gen.facts)
    (hReferenceIdeal := Cert.ReferenceIdeal.Gen.facts) (hPre_zero_bias := Cert.Pre_zero_bias.Gen.facts) := by
  intro m g m' g' hpre hargs
  refine ⟨fun c => Cert.KernelIdeal.Proof.result m c,
    (θ_run _ _ _).mono (fun r h => h.1) (Cert.KernelIdeal.Proof.run m g), ?_⟩
  have hb : ∀ (c : Dev Cert.ReferenceIdeal.nD) j, m' ((c.tc : Thread Cert.ReferenceIdeal.nD Cert.ReferenceIdeal.τ).loc Cert.ReferenceIdeal.main_arg2) j
      = (0 : EReal) := fun c j => by
    rw [(hargs c).2.2]
    exact @Cert.Pre_zero_bias.bias_zero Cert.Pre_zero_bias.Gen.facts _ _ _ (hpre c) j
  refine (θ_run _ _ _).mono (fun r h c => ⟨?_, (h c).2⟩) (Cert.ReferenceIdeal.Proof.run m' g' hb)
  rw [(h c).1, (hargs c).1, (hargs c).2.1]

end Cert.Proof

end
-- ==== Proof.lean ====
/-
  The certificate of the log-softmax kernel: its claims assembled from the launches of the three programs and the equation
  between the kernel's result and the reference's.
-/
module

public import proofs.«01_k».proof.Defs
public import proofs.«01_k».proof.Proof.FrameBits
public import proofs.«01_k».proof.Proof.Equal

@[expose] public section

open Idealize.ShloMosaic Idealize.SL.Sem

/-- The kernel over the extended reals terminates quiescent, its arguments unchanged. -/
theorem Cert.Proof.quiescentIdeal : Cert.quiescent_KernelIdeal (hKernelIdeal := Cert.KernelIdeal.Gen.facts) := fun m g _ =>
  (θ_run _ _ _).mono (fun _ h => ⟨fun c => (h.1 c).2, h.2⟩) (Cert.KernelIdeal.Proof.run m g)

/-- Every claim of the certificate holds. -/
theorem Cert.Proof.claim : Cert.Claim :=
  ⟨Cert.Kernel.Gen.facts, Cert.KernelIdeal.Gen.facts, Cert.ReferenceIdeal.Gen.facts, Cert.Pre_zero_bias.Gen.facts,
    fun m g _ => Cert.Kernel.Proof.frame m g, Cert.Proof.quiescentIdeal, fun m g _ => Cert.Proof.quiescentIdeal m g trivial,
    fun m g _ => Cert.ReferenceIdeal.Proof.frame m g, fun m g _ => Cert.ReferenceIdeal.Proof.frame m g, trivial,
    Cert.Proof.equal⟩
